-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels [hPre_labels : Cert.Pre_labels.Facts] (m : (ℓ : Loc Cert.KernelIdeal.nD Cert.KernelIdeal.τ Cert.KernelIdeal.sig) → Buf (Elt Ideal) ℓ) : Prop :=
  ∀ c : Dev Cert.KernelIdeal.nD,
    (Cert.Pre_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels [hPre_labels : Cert.Pre_labels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_labels [hKernelIdeal : Cert.KernelIdeal.Facts] [hPre_labels : Cert.Pre_labels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels [hReferenceIdeal : Cert.ReferenceIdeal.Facts] [hPre_labels : Cert.Pre_labels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "one_plus_clip" .f32 0x3F866666#32 ((281857229 / 268435456 : ℝ) : EReal)

def algebraic_KernelIdeal_ReferenceIdeal_pre_labels [hKernelIdeal : Cert.KernelIdeal.Facts] [hReferenceIdeal : Cert.ReferenceIdeal.Facts] [hPre_labels : Cert.Pre_labels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels : Cert.Pre_labels.Facts),
    quiescent_Kernel (hKernel := hKernel)
    ∧ quiescent_KernelIdeal (hKernelIdeal := hKernelIdeal)
    ∧ quiescent_KernelIdeal_pre_labels (hKernelIdeal := hKernelIdeal) (hPre_labels := hPre_labels)
    ∧ quiescent_ReferenceIdeal (hReferenceIdeal := hReferenceIdeal)
    ∧ quiescent_ReferenceIdeal_pre_labels (hReferenceIdeal := hReferenceIdeal) (hPre_labels := hPre_labels)
    ∧ preserves_Kernel_KernelIdeal
    ∧ algebraic_KernelIdeal_ReferenceIdeal_pre_labels (hKernelIdeal := hKernelIdeal) (hReferenceIdeal := hReferenceIdeal) (hPre_labels := hPre_labels)
-- ==== Pre_labels.lean ====
abbrev S4096x10000 : Shape := ⟨2, ![4096, 10000]⟩
abbrev S_ : Shape := ⟨0, ![]⟩

class Facts : Prop where
  bcast_S_S4096x10000 : S_.BroadcastsInDim S4096x10000 (![] : Fin 0 → Fin S4096x10000.rank)
  reducesTo_S4096x10000_S_d0_1 : S4096x10000.ReducesTo [0, 1] S_
  h_S_ : 0 < S_.numel

variable [Facts]

def fn {F : FTy → Type} [FloatOps F] (main_arg0 : FVec F S4096x10000 .f32) (main_arg1 : IVec S4096x10000 32) (main_arg2 : IVec S4096x10000 32) : IVec S_ 1 :=
  let main_c : IVec S_ 32 := constantI S_ 32 0#32
  let main_v0 : IVec S4096x10000 32 := broadcastInDim S4096x10000 ![] bcast_S_S4096x10000 main_c
  let main_v1 : IVec S4096x10000 1 := cmpi .eq main_arg1 main_v0
  let main_c_0 : IVec S_ 32 := constantI S_ 32 1#32
  let main_v2 : IVec S4096x10000 32 := broadcastInDim S4096x10000 ![] bcast_S_S4096x10000 main_c_0
  let main_v3 : IVec S4096x10000 1 := cmpi .eq main_arg1 main_v2
  let main_v4 : IVec S4096x10000 1 := ori main_v1 main_v3
  let main_c_1 : IVec S_ 1 := constantI S_ 1 1#1
  let main_v5 : IVec S_ 1 := (fun x v => Host.reduce IntOp.andi x v reducesTo_S4096x10000_S_d0_1 h_S_) main_v4 main_c_1
  let main_c_2 : IVec S_ 32 := constantI S_ 32 0#32
  let main_v6 : IVec S4096x10000 32 := broadcastInDim S4096x10000 ![] bcast_S_S4096x10000 main_c_2
  let main_v7 : IVec S4096x10000 1 := cmpi .eq main_arg2 main_v6
  let main_c_3 : IVec S_ 1 := constantI S_ 1 1#1
  let main_v8 : IVec S_ 1 := (fun x v => Host.reduce IntOp.andi x v reducesTo_S4096x10000_S_d0_1 h_S_) main_v7 main_c_3
  let main_v9 : IVec S_ 1 := andi main_v5 main_v8
  main_v9
-- ==== Kernel.lean ====
abbrev S4096x10000 : Shape := ⟨2, ![4096, 10000]⟩
abbrev S10000x4096 : Shape := ⟨2, ![10000, 4096]⟩
abbrev S2x8x128 : Shape := ⟨3, ![2, 8, 128]⟩
abbrev S1000x2048 : Shape := ⟨2, ![1000, 2048]⟩
abbrev S1x8x128 : Shape := ⟨3, ![1, 8, 128]⟩
abbrev S8x1024 : Shape := ⟨2, ![8, 1024]⟩
abbrev S1x8x1024 : Shape := ⟨3, ![1, 8, 1024]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 11
  | .vmem => 6
  | .smem => 0
  | _ => 0

abbrev bufTy : (tb : Table) → Fin (tcTables nBuf tb) → BufTy
  | .hbm, ⟨0, _⟩ => ⟨S4096x10000, .f32⟩
  | .hbm, ⟨1, _⟩ => ⟨S4096x10000, .i32⟩
  | .hbm, ⟨2, _⟩ => ⟨S4096x10000, .i32⟩
  | .hbm, ⟨3, _⟩ => ⟨S10000x4096, .f32⟩
  | .hbm, ⟨4, _⟩ => ⟨S10000x4096, .i32⟩
  | .hbm, ⟨5, _⟩ => ⟨S2x8x128, .f32⟩
  | .hbm, ⟨6, _⟩ => ⟨S2x1x1, .f32⟩
  | .hbm, ⟨7, _⟩ => ⟨S2, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1000x2048, .f32⟩
  | .local _ .vmem, ⟨1, _⟩ => ⟨S1000x2048, .f32⟩
  | .local _ .vmem, ⟨2, _⟩ => ⟨S1000x2048, .i32⟩
  | .local _ .vmem, ⟨3, _⟩ => ⟨S1000x2048, .i32⟩
  | .local _ .vmem, ⟨4, _⟩ => ⟨S1x8x128, .f32⟩
  | .local _ .vmem, ⟨5, _⟩ => ⟨S1x8x128, .f32⟩
  | _, _ => ⟨S4096x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1000x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== KernelIdeal.lean ====
variable {F : FTy → Type} [FloatOps F] [Named F]
def κ : String → Option EReal := fun
  | "one_plus_clip" => some ((281857229 / 268435456 : ℝ) : EReal)
  | _ => none
-- ==== ReferenceIdeal.lean ====
abbrev S4096x10000 : Shape := ⟨2, ![4096, 10000]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S4096x10000, .f32⟩
  | .hbm, ⟨1, _⟩ => ⟨S4096x10000, .i32⟩
  | .hbm, ⟨2, _⟩ => ⟨S4096x10000, .i32⟩
  | .hbm, ⟨3, _⟩ => ⟨S4096x10000, .f32⟩
  | .hbm, ⟨4, _⟩ => ⟨S4096x10000, .f32⟩
  | .hbm, ⟨5, _⟩ => ⟨S4096x10000, .f32⟩
  | .hbm, ⟨6, _⟩ => ⟨S4096x10000, .f32⟩
  | .hbm, ⟨7, _⟩ => ⟨S_, .f32⟩
  | .hbm, ⟨8, _⟩ => ⟨S4096x10000, .f32⟩
  | .hbm, ⟨9, _⟩ => ⟨S4096x10000, .f32⟩
  | .hbm, ⟨10, _⟩ => ⟨S_, .f32⟩
  | .hbm, ⟨11, _⟩ => ⟨S4096x10000, .f32⟩
  | .hbm, ⟨12, _⟩ => ⟨S4096x10000, .f32⟩
  | .hbm, ⟨13, _⟩ => ⟨S_, .f32⟩
  | .hbm, ⟨14, _⟩ => ⟨S4096x10000, .f32⟩
  | .hbm, ⟨15, _⟩ => ⟨S4096x10000, .f32⟩
  | .hbm, ⟨16, _⟩ => ⟨S_, .f32⟩
  | .hbm, ⟨17, _⟩ => ⟨S4096x10000, .f32⟩
  | .hbm, ⟨18, _⟩ => ⟨S4096x10000, .f32⟩
  | .hbm, ⟨19, _⟩ => ⟨S_, .f32⟩
  | .hbm, ⟨20, _⟩ => ⟨S4096x10000, .f32⟩
  | .hbm, ⟨21, _⟩ => ⟨S4096x10000, .f32⟩
  | .hbm, ⟨22, _⟩ => ⟨S_, .f32⟩
  | .hbm, ⟨23, _⟩ => ⟨S4096x10000, .f32⟩
  | .hbm, ⟨24, _⟩ => ⟨S4096x10000, .f32⟩
  | .hbm, ⟨25, _⟩ => ⟨S4096x10000, .f32⟩
  | .hbm, ⟨26, _⟩ => ⟨S4096x10000, .f32⟩
  | .hbm, ⟨27, _⟩ => ⟨S_, .f32⟩
  | .hbm, ⟨28, _⟩ => ⟨S4096x10000, .f32⟩
  | .hbm, ⟨29, _⟩ => ⟨S4096x10000, .f32⟩
  | .hbm, ⟨30, _⟩ => ⟨S_, .f32⟩
  | .hbm, ⟨31, _⟩ => ⟨S4096x10000, .f32⟩
  | .hbm, ⟨32, _⟩ => ⟨S4096x10000, .f32⟩
  | .hbm, ⟨33, _⟩ => ⟨S4096x10000, .f32⟩
  | .hbm, ⟨34, _⟩ => ⟨S4096x10000, .f32⟩
  | .hbm, ⟨35, _⟩ => ⟨S4096x10000, .f32⟩
  | .hbm, ⟨36, _⟩ => ⟨S4096x10000, .f32⟩
  | .hbm, ⟨37, _⟩ => ⟨S_, .f32⟩
  | .hbm, ⟨38, _⟩ => ⟨S4096x10000, .f32⟩
  | .hbm, ⟨39, _⟩ => ⟨S4096x10000, .f32⟩
  | .hbm, ⟨40, _⟩ => ⟨S4096x10000, .f32⟩
  | .hbm, ⟨41, _⟩ => ⟨S4096x10000, .f32⟩
  | .hbm, ⟨42, _⟩ => ⟨S_, .f32⟩
  | .hbm, ⟨43, _⟩ => ⟨S4096x10000, .f32⟩
  | .hbm, ⟨44, _⟩ => ⟨S4096x10000, .f32⟩
  | .hbm, ⟨45, _⟩ => ⟨S_, .f32⟩
  | .hbm, ⟨46, _⟩ => ⟨S4096x10000, .f32⟩
  | .hbm, ⟨47, _⟩ => ⟨S4096x10000, .f32⟩
  | .hbm, ⟨48, _⟩ => ⟨S4096x10000, .f32⟩
  | .hbm, ⟨49, _⟩ => ⟨S_, .f32⟩
  | .hbm, ⟨50, _⟩ => ⟨S4096x10000, .f32⟩
  | .hbm, ⟨51, _⟩ => ⟨S4096x10000, .f32⟩
  | .hbm, ⟨52, _⟩ => ⟨S4096x10000, .f32⟩
  | .hbm, ⟨53, _⟩ => ⟨S_, .f32⟩
  | .hbm, ⟨54, _⟩ => ⟨S4096x10000, .f32⟩
  | .hbm, ⟨55, _⟩ => ⟨S4096x10000, .f32⟩
  | .hbm, ⟨56, _⟩ => ⟨S4096x10000, .f32⟩
  | .hbm, ⟨57, _⟩ => ⟨S_, .f32⟩
  | .hbm, ⟨58, _⟩ => ⟨S4096x10000, .f32⟩
  | .hbm, ⟨59, _⟩ => ⟨S4096x10000, .f32⟩
  | .hbm, ⟨60, _⟩ => ⟨S4096x10000, .f32⟩
  | .hbm, ⟨61, _⟩ => ⟨S4096x10000, .f32⟩
  | .hbm, ⟨62, _⟩ => ⟨S_, .f32⟩
  | .hbm, ⟨63, _⟩ => ⟨S_, .f32⟩
  | .hbm, ⟨64, _⟩ => ⟨S_, .f32⟩
  | _, _ => ⟨S4096x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_cst_9 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_10 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_11 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_12 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_13 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Proof.Loss.Body.lean ====
/-
  What one run of the kernel's body adds to its output block: the body is unrolled over 250 chunks of 8 rows by 1024
  columns, each chunk's elementwise loss is added to an accumulator of the chunk's shape, and the accumulator is summed.
-/
module

public import proofs.«01_k».proof.Proof.Gen.KernelIdeal.Frame
public import Idealize.ShloMosaic.Lib.Pipeline.Value
public import Idealize.ShloMosaic.Lib.Tactic

@[expose] public section

noncomputable section

namespace Cert.KernelIdeal.Loss

open Cert.KernelIdeal Cert.KernelIdeal.Gen Idealize.ShloMosaic Idealize.ShloMosaic.TcCoe Idealize.SL.Sem

variable {F : FTy → Type} [FloatOps F] [Named F]

/-- The elementwise loss of one chunk: `x` the logits, `y` the labels. -/
def term (x : FVec F S8x1024 .f32) (y : IVec S8x1024 32) : FVec F S8x1024 .f32 :=
  mulf
    (log (maximumf
      (select (cmpi .sgt y (broadcast S8x1024 0#32)) (logistic x)
        (minimumf (subf (broadcast S8x1024 (Named.named κ "one_plus_clip" 0x3F866666#32)) (logistic x))
          (broadcast S8x1024 (Scalar.ofBits .f32 0x3F800000#32))))
      (broadcast S8x1024 (Scalar.ofBits .f32 0x322BCC77#32))))
    (select (cmpi .sgt y (broadcast S8x1024 0#32))
      (subf (broadcast S8x1024 (Scalar.ofBits .f32 0x3F800000#32)) (logistic x))
      (mulf
        (mulf
          (subf (broadcast S8x1024 (Scalar.ofBits .f32 0x3F800000#32))
            (minimumf (subf (broadcast S8x1024 (Named.named κ "one_plus_clip" 0x3F866666#32)) (logistic x))
              (broadcast S8x1024 (Scalar.ofBits .f32 0x3F800000#32))))
          (subf (broadcast S8x1024 (Scalar.ofBits .f32 0x3F800000#32))
            (minimumf (subf (broadcast S8x1024 (Named.named κ "one_plus_clip" 0x3F866666#32)) (logistic x))
              (broadcast S8x1024 (Scalar.ofBits .f32 0x3F800000#32)))))
        (mulf
          (subf (broadcast S8x1024 (Scalar.ofBits .f32 0x3F800000#32))
            (minimumf (subf (broadcast S8x1024 (Named.named κ "one_plus_clip" 0x3F866666#32)) (logistic x))
              (broadcast S8x1024 (Scalar.ofBits .f32 0x3F800000#32))))
          (subf (broadcast S8x1024 (Scalar.ofBits .f32 0x3F800000#32))
            (minimumf (subf (broadcast S8x1024 (Named.named κ "one_plus_clip" 0x3F866666#32)) (logistic x))
              (broadcast S8x1024 (Scalar.ofBits .f32 0x3F800000#32)))))))

/-- Where chunk `k` starts: rows advance by 8 every second chunk, columns alternate between the two halves. -/
abbrev off (k : ℕ) : Fin 2 → ℕ := ![8 * (k / 2), 1024 * (k % 2)]

/-- Each of the 250 chunks lies inside the block. -/
theorem off_inb (k : ℕ) (h : k < 250) : ∀ a, off k a + S8x1024.size a ≤ S1000x2048.size a := fun a => by
  match a with
  | ⟨0, _⟩ => show 8 * (k / 2) + 8 ≤ 1000; omega
  | ⟨1, _⟩ => show 1024 * (k % 2) + 1024 ≤ 2048; omega

/-- The accumulator after the first `n` chunks: zeros, then the chunks' losses added in order. -/
def acc (x : Vec F S1000x2048 .f32) (y : Vec F S1000x2048 .i32) : (n : ℕ) → n ≤ 250 → FVec F S8x1024 .f32
  | 0, _ => broadcast S8x1024 (Scalar.ofBits .f32 0x00000000#32)
  | n + 1, h => addf (acc x y n (Nat.le_of_succ_le h))
      (term (shapeCast S8x1024 (View.ld x (Rect.unit (off n) S8x1024.size (off_inb n h))) shapeCasts_S8x1024_S8x1024)
        (shapeCast S8x1024 (View.ld y (Rect.unit (off n) S8x1024.size (off_inb n h))) shapeCasts_S8x1024_S8x1024))

/-- The sum of the accumulator's elements, as the body takes it. -/
def total (x : Vec F S1000x2048 .f32) (y : Vec F S1000x2048 .i32) : F .f32 :=
  extractAt ![0, 0, 0] (shapeCast S1x1x1 (multiReduction .add [1, 2] S1
    (shapeCast S1x8x1024 (acc x y 250 le_rfl) shapeCasts_S8x1024_S1x8x1024) 0x00000000#32 reduces_S1x8x1024_S1 (.inl rfl) rfl)
    shapeCasts_S1_S1x1x1) inpos_S1x1x1_p0_0_0

/-- The offset of a whole-block access is zero on every axis. -/
theorem hz3 : (![0, 0, 0] : Fin 3 → Nat) = fun _ => 0 := funext fun a => by fin_cases a <;> rfl

set_option maxRecDepth 65536 in
set_option maxHeartbeats 4000000 in
/-- At a point that is not the first of its row, the body adds the block's total to what the output block held. -/
theorem out_B (c : Dev nD) (i : grid0.Coords) (a2 : Memref sig .tc .vmem S1000x2048 .f32) (h2 : a2.IsWhole)
    (a3 : Memref sig .tc .vmem S1000x2048 .i32) (h3 : a3.IsWhole) (a4 : Memref sig .tc .vmem S1x8x128 .f32) (h4 : a4.IsWhole)
    (hc : ¬cond0_0 i) (x : Vec F S1000x2048 .f32) (y : Vec F S1000x2048 .i32) (o : Vec F S1x8x128 .f32) :
    out0_B_2 c i a2 h2 a3 h3 a4 h4 hc x y o = addf o (broadcast S1x8x128 (total x y)) := by
  unfold out0_B_2
  rw [View.read_writes_eq_canon _ _ _ (cover0_B_2 c i a2 h2 a3 h3 a4 h4 hc x y o)]
  unfold kernelRun0_B
  dsimp only
  rw [View.canon_unit_zero hz3]
  sl_unfold_words
  simp only [View.readAt_eq_ld, h2.read_unread, h3.read_unread, h4.read_unread, View.ld_unit_zero (S := S1x8x128) hz3]
  exact (rfl : _ = addf (shapeCast S1x8x128 o shapeCasts_S1x8x128_S1x8x128) (broadcast S1x8x128 (total x y))).trans
    (by rw [shapeCast_self])

set_option maxRecDepth 65536 in
set_option maxHeartbeats 4000000 in
/-- At the first point of a row, the body adds the block's total to zeros. -/
theorem out_A (c : Dev nD) (i : grid0.Coords) (a2 : Memref sig .tc .vmem S1000x2048 .f32) (h2 : a2.IsWhole)
    (a3 : Memref sig .tc .vmem S1000x2048 .i32) (h3 : a3.IsWhole) (a4 : Memref sig .tc .vmem S1x8x128 .f32) (h4 : a4.IsWhole)
    (hc : cond0_0 i) (x : Vec F S1000x2048 .f32) (y : Vec F S1000x2048 .i32) :
    out0_A_2 c i a2 h2 a3 h3 a4 h4 hc x y
      = addf (broadcast S1x8x128 (Scalar.ofBits .f32 0x00000000#32)) (broadcast S1x8x128 (total x y)) := by
  unfold out0_A_2
  rw [View.read_writes_eq_canon _ _ _ (cover0_A_2 c i a2 h2 a3 h3 a4 h4 hc x y)]
  unfold kernelRun0_A
  dsimp only
  rw [View.canon_cons_unit_zero (S := S1x8x128) hz3]
  sl_unfold_words
  simp only [View.readAt_eq_ld, h2.read_unread, h3.read_unread, View.readCov_unit_zero (S := S1x8x128) _ hz3]
  exact (rfl : _ = addf (shapeCast S1x8x128 k0_pay2 shapeCasts_S1x8x128_S1x8x128) (broadcast S1x8x128 (total x y))).trans
    (by rw [shapeCast_self]; rfl)

end Cert.KernelIdeal.Loss

end
-- ==== Proof.Loss.Sum.lean ====
/-
  The block's total as one sum: over the extended reals the accumulator's chunks and the final reduction add up the
  pointwise loss over every element of the block, each once.
-/
module

public import proofs.«01_k».proof.Proof.Loss.Body
public import Idealize.ShloMosaic.PureOps.Ideal
public import Idealize.ShloMosaic.PureOps.Ideal.Laws
public import Idealize.ShloMosaic.Lib.ValueIdx

@[expose] public section

noncomputable section

namespace Cert.KernelIdeal.Loss

open Cert.KernelIdeal Cert.KernelIdeal.Gen Idealize.ShloMosaic Idealize.ShloMosaic.TcCoe Idealize.SL.Sem
open Idealize.ShloMosaic.ValueIdx

/-- The pattern of `+0.0` denotes zero. -/
theorem word_zero : Ideal.ofBits .f32 0x00000000#32 = 0 := by simp [Ideal.ofBits, Ideal.ieee]

/-- The loss of one element, as the kernel computes it: `p` is the logistic of the logit `x`, `q` the clipped
    complement; a positive label takes `log p · (1 − p)`, any other `log q · (1 − q)⁴`. -/
def pt (x : EReal) (y : BitVec 32) : EReal :=
  let p := Ideal.logistic x
  let q := min (Named.named (F := Ideal) κ "one_plus_clip" 0x3F866666#32 - p) (Ideal.ofBits .f32 0x3F800000#32)
  let d := Ideal.ofBits .f32 0x3F800000#32 - q
  let b := IntOp.cmpi .sgt y 0#32
  Ideal.log (max (Scalar.select b p q) (Ideal.ofBits .f32 0x322BCC77#32))
    * Scalar.select b (Ideal.ofBits .f32 0x3F800000#32 - p) (d * d * (d * d))

/-- A chunk's loss at an element is the pointwise loss there. -/
theorem term_apply (x : FVec Ideal S8x1024 .f32) (y : IVec S8x1024 32) (i : S8x1024.Idx) : term x y i = pt (x i) (y i) := rfl

/-- The accumulator at an element: the chunks' losses there, added up. -/
theorem acc_apply (x : Vec Ideal S1000x2048 .f32) (y : Vec Ideal S1000x2048 .i32) (i : S8x1024.Idx) :
    ∀ (n : ℕ) (h : n ≤ 250), acc (F := Ideal) x y n h i
      = ∑ k : Fin n, pt (x ((Rect.unit (s := S1000x2048) (off k) S8x1024.size (off_inb k (k.isLt.trans_le h))).idx i))
          (y ((Rect.unit (s := S1000x2048) (off k) S8x1024.size (off_inb k (k.isLt.trans_le h))).idx i))
  | 0, _ => word_zero
  | n + 1, h => by
    rw [Fin.sum_univ_castSucc]
    have e : ∀ {α : Type} (v : S8x1024.Idx → α), shapeCast S8x1024 v shapeCasts_S8x1024_S8x1024 i = v i :=
      fun v => congrFun (shapeCast_self v _) i
    show acc (F := Ideal) x y n _ i + term _ _ i = _
    rw [acc_apply x y i n (Nat.le_of_succ_le h), term_apply, e, e]
    rfl

/-- The chunks tile the block: an element of a chunk and the chunk's number name an element of the block, each element
    named once. -/
def tile : S8x1024.Idx × Fin 250 ≃ S1000x2048.Idx where
  toFun p := (Rect.unit (s := S1000x2048) (off p.2) S8x1024.size (off_inb p.2 p.2.isLt)).idx p.1
  invFun j := (ix2 (⟨(j 0).val % 8, by omega⟩ : Fin 8) (⟨(j 1).val % 1024, by omega⟩ : Fin 1024),
    ⟨2 * ((j 0).val / 8) + (j 1).val / 1024, by have := idx2_lt0 j; have := idx2_lt1 j; omega⟩)
  left_inv p := by
    obtain ⟨i, k⟩ := p
    have h0 := idx2_lt0 i
    have h1 := idx2_lt1 i
    refine Prod.ext (funext fun a => Fin.ext ?_) (Fin.ext ?_)
    · match a with
      | ⟨0, _⟩ => show (8 * (k.val / 2) + 1 * (i 0).val) % 8 = (i 0).val; omega
      | ⟨1, _⟩ => show (1024 * (k.val % 2) + 1 * (i 1).val) % 1024 = (i 1).val; omega
    · show 2 * ((8 * (k.val / 2) + 1 * (i 0).val) / 8) + (1024 * (k.val % 2) + 1 * (i 1).val) / 1024 = k.val
      omega
  right_inv j := by
    have h0 := idx2_lt0 j
    have h1 := idx2_lt1 j
    refine funext fun a => Fin.ext ?_
    match a with
    | ⟨0, _⟩ => show 8 * ((2 * ((j 0).val / 8) + (j 1).val / 1024) / 2) + 1 * ((j 0).val % 8) = (j 0).val; omega
    | ⟨1, _⟩ => show 1024 * ((2 * ((j 0).val / 8) + (j 1).val / 1024) % 2) + 1 * ((j 1).val % 1024) = (j 1).val; omega

/-- The block's total is the sum of the pointwise loss over the block. -/
theorem total_eq (x : Vec Ideal S1000x2048 .f32) (y : Vec Ideal S1000x2048 .i32) :
    total (F := Ideal) x y = ∑ j : S1000x2048.Idx, pt (x j) (y j) := by
  refine (Ideal.multiReduction_add_total (shapeCast S1x8x1024 (acc (F := Ideal) x y 250 le_rfl) shapeCasts_S8x1024_S1x8x1024)
    0x00000000#32 reduces_S1x8x1024_S1 (fun b => by fin_cases b; rfl) (.inl rfl) rfl _).trans ?_
  refine (Equiv.sum_comp (Shape.reshapeEquiv shapeCasts_S8x1024_S1x8x1024) (acc (F := Ideal) x y 250 le_rfl)).trans ?_
  simp only [acc_apply]
  rw [← Fintype.sum_prod_type', ← Equiv.sum_comp tile]
  rfl

end Cert.KernelIdeal.Loss

end
-- ==== Proof.Loss.Array.lean ====
/-
  What the kernel's output array holds after the region: at core row `k`, everywhere, the sum over the row's ten blocks
  of the pointwise loss.
-/
module

public import proofs.«01_k».proof.Proof.Loss.Sum
public import Idealize.ShloMosaic.Lib.Pipeline.ValueKit.Geometry
public import Idealize.ShloMosaic.Lib.Pipeline.ValueKit.Acc
public import Idealize.ShloMosaic.Lib.StableHlo.Run
public import Idealize.ShloMosaic.Lib.ValueIdxRank1

@[expose] public section

noncomputable section

namespace Cert.KernelIdeal.Loss

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The loss summed over the blocks that point `t` reads. -/
def blockSum (c : Dev nD) (t : Fin cfg0.N) : EReal :=
  ∑ j : S1000x2048.Idx, pt (iblk m c 0 t j) (iblk m c 1 t j)

/-- The output block after the last point of a row: zero plus the row's ten block sums. -/
theorem outs_flush (c : Dev nD) (t : Fin cfg0.N) (h : t.val % 10 = 9) (i : S1x8x128.Idx) :
    outsAt0 m c t.val t.isLt i
      = 0 + ∑ s : Fin 10, blockSum m c ⟨10 * (t.val / 10) + s.val, Pipeline.run_point_lt_of_flush t h s⟩ :=
  Pipeline.eq_sum_fin_of_reset_step_apply_of_flush (outsAt0 m c) 10 (fun _ => 0) (fun t _ => blockSum m c t)
    (fun t h i => by
      rw [outsAt0_A m c t h, out_A]
      show Ideal.ofBits .f32 0x00000000#32 + total _ _ = _
      rw [word_zero, total_eq]
      rfl)
    (fun t h i => by
      rw [outsAt0_B m c t h, out_B]
      show _ + total _ _ = _
      rw [total_eq]
      rfl) t h i

/-- Step `s` of core row `k < 2` is a point of the grid. -/
theorem point_lt (k : ℕ) (s : Fin 10) (h : k < 2) : 10 * k + s.val < cfg0.N := by
  have : cfg0.N = 20 := N_0
  omega

/-- The output array: row `k` holds the sum of its ten blocks' sums at every element. -/
def rows (c : Dev nD) (i : S2x8x128.Idx) : EReal :=
  0 + ∑ s : Fin 10, blockSum m c ⟨10 * (i 0).val + s.val, point_lt (i 0).val s (i 0).isLt⟩

/-- The output's block at point `t` is the core row's. -/
theorem index_2 : ∀ t : Fin cfg0.N, win0_2.index t = ![t.val / 10, 0, 0] :=
  (by decide +kernel : ∀ t : Fin grid0.N, win0_2.index t = ![t.val / 10, 0, 0])

/-- The logits' block at point `t`: the step's rows, the core row's columns. -/
theorem index_0 : ∀ t : Fin cfg0.N, win0_0.index t = ![t.val % 10, t.val / 10] :=
  (by decide +kernel : ∀ t : Fin grid0.N, win0_0.index t = ![t.val % 10, t.val / 10])

/-- The labels' block at point `t` is cut the same way. -/
theorem index_1 : ∀ t : Fin cfg0.N, win0_1.index t = ![t.val % 10, t.val / 10] :=
  (by decide +kernel : ∀ t : Fin grid0.N, win0_1.index t = ![t.val % 10, t.val / 10])

/-- After the region the output array holds `rows`. -/
theorem final_out (c : Dev nD) : (dats m 0 c).arrAt 2 cfg0.N = rows m c := by
  refine (dats m 0 c).arrAt_eq_of_covers 2 _ (by decide +kernel) fun t hf y => ?_
  have h9 := (flush0_2 t).mp hf
  have e : (((cfg0.win 2).blk t).view.emb y 0).val = t.val / 10 := by
    blk_simp [index_2]
  blk_simp
  rw [after0_2]
  refine (outs_flush m c t h9 _).trans ?_
  refine congrArg (0 + ·) (Finset.sum_congr rfl fun s _ => congrArg (blockSum m c) (Fin.ext ?_))
  show 10 * (t.val / 10) + s.val = 10 * (((cfg0.win 2).blk t).view.emb y 0).val + s.val
  rw [e]

/-- The region finds the logits transposed. -/
theorem V_x (c : Dev nD) (i : Fin 10000) (j : Fin 4096) :
    V m c main_v0 (ix2 i j) = m ((c : Thread nD τ).loc main_arg0) (ix2 j i) := by
  have e : V m c main_v0 = transpose S10000x4096 [1, 0] (m ((c : Thread nD τ).loc main_arg0)) transposes_S4096x10000_S10000x4096_1_0 := by
    show StableHlo.after (List.flatten [hostOps0]) _ _ = _
    simp only [hostOps0, List.flatten_cons, List.flatten_nil, List.append_nil]
    after_results
  rw [e]
  exact transpose_apply _ _ _ _ _ fun b => by match b with | ⟨0, _⟩ => rfl | ⟨1, _⟩ => rfl

/-- The region finds the labels transposed. -/
theorem V_y (c : Dev nD) (i : Fin 10000) (j : Fin 4096) :
    V m c main_v1 (ix2 i j) = m ((c : Thread nD τ).loc main_arg1) (ix2 j i) := by
  have e : V m c main_v1 = transpose S10000x4096 [1, 0] (m ((c : Thread nD τ).loc main_arg1)) transposes_S4096x10000_S10000x4096_1_0 := by
    show StableHlo.after (List.flatten [hostOps0]) _ _ = _
    simp only [hostOps0, List.flatten_cons, List.flatten_nil, List.append_nil]
    after_results
  rw [e]
  exact transpose_apply _ _ _ _ _ fun b => by match b with | ⟨0, _⟩ => rfl | ⟨1, _⟩ => rfl

/-- The sample a block element comes from. -/
def sample (t : Fin cfg0.N) (j : S1000x2048.Idx) : Fin 4096 :=
  ⟨2048 * (t.val / 10) + (j 1).val, by have := idx2_lt1 j; have : cfg0.N = 20 := N_0; have := t.isLt; omega⟩

/-- The class a block element comes from. -/
def cls (t : Fin cfg0.N) (j : S1000x2048.Idx) : Fin 10000 :=
  ⟨1000 * (t.val % 10) + (j 0).val, by have := idx2_lt0 j; omega⟩

/-- The logits' block at point `t`, read off the argument. -/
theorem iblk_x (c : Dev nD) (t : Fin cfg0.N) (j : S1000x2048.Idx) :
    iblk m c 0 t j = m ((c : Thread nD τ).loc main_arg0) (ix2 (sample t j) (cls t j)) := by
  have e : ((win0_0.blk t).view.emb j : S10000x4096.Idx) = ix2 (cls t j) (sample t j) := funext fun a => Fin.ext (by
    match a with
    | ⟨0, _⟩ => show ((win0_0.blk t).view.emb j 0 : ℕ) = 1000 * (t.val % 10) + (j 0).val; blk_simp [index_0]; omega
    | ⟨1, _⟩ => show ((win0_0.blk t).view.emb j 1 : ℕ) = 2048 * (t.val / 10) + (j 1).val; blk_simp [index_0]; omega)
  rw [← V_x m c, ← e]
  rfl

/-- The labels' block at point `t`, read off the argument. -/
theorem iblk_y (c : Dev nD) (t : Fin cfg0.N) (j : S1000x2048.Idx) :
    iblk m c 1 t j = m ((c : Thread nD τ).loc main_arg1) (ix2 (sample t j) (cls t j)) := by
  have e : ((win0_1.blk t).view.emb j : S10000x4096.Idx) = ix2 (cls t j) (sample t j) := funext fun a => Fin.ext (by
    match a with
    | ⟨0, _⟩ => show ((win0_1.blk t).view.emb j 0 : ℕ) = 1000 * (t.val % 10) + (j 0).val; blk_simp [index_1]; omega
    | ⟨1, _⟩ => show ((win0_1.blk t).view.emb j 1 : ℕ) = 2048 * (t.val / 10) + (j 1).val; blk_simp [index_1]; omega)
  rw [← V_y m c, ← e]
  rfl

/-- The kernel's result: the negated sum of the two rows. -/
def result (c : Dev nD) : EReal :=
  -(0 + ∑ k : Fin 2, (0 + ∑ s : Fin 10, blockSum m c ⟨10 * k.val + s.val, point_lt k.val s k.isLt⟩))

/-- The host lines after the region leave the result in the kernel's result buffer. -/
theorem result_eq (c : Dev nD) :
    Pipeline.afterTail₀ cfgs (dats m) 0 (V0 m) [hostOps1] c main_v6 = fun _ => result m c := by
  unfold Pipeline.afterTail₀
  simp only [hostOps1, List.flatten_cons, List.flatten_nil, List.append_nil]
  after_results
  have e : Pipeline.withArrays (cfgs 0).spec c (V0 m c) (fun w => (dats m 0 c).arrAt w (cfgs 0).N)
      (Proc.tc.devRef main_v2) = rows m c :=
    (Pipeline.withArrays_arr (cfgs 0).spec (by decide) c (V0 m c) _ 2).trans (final_out m c)
  rw [e]
  funext i
  refine congrArg Neg.neg (a₁ := (_ : EReal)) ?_
  refine (Ideal.hostReduceAdd_total reducesTo_S2_S_d0 (fun b => b.elim0) _ _ i).trans ?_
  refine congrArg₂ (· + ·) word_zero ?_
  rw [← Equiv.sum_comp idxEquiv1.symm]
  refine Finset.sum_congr rfl fun k _ => ?_
  refine (shapeCast_apply _ shapeCasts_S2x1x1_S2 (ix1 k) (ix3 k 0 0) ?_).trans ?_
  · simp [Shape.rowMajor_val_one, Shape.rowMajor_val_three]
  refine (extractStridedSlice_apply (s := S2x8x128) (t := S2x1x1) ![0, 0, 0] (rows m c) slices_S2x8x128_S2x1x1_0_0_0 (ix3 k 0 0) (ix3 k 0 0) ?_).trans ?_
  · intro a
    fin_cases a <;> simp [ix3]
  · rfl

end Cert.KernelIdeal.Loss

end
-- ==== Proof.Loss.Grid.lean ====
/-
  The grid's blocks cover the argument: every sample and class lies in exactly one block, so the kernel's result is the
  negated sum of the pointwise loss over the whole argument.
-/
module

public import proofs.«01_k».proof.Proof.Loss.Array

@[expose] public section

noncomputable section

namespace Cert.KernelIdeal.Loss

open Cert.KernelIdeal Cert.KernelIdeal.Gen Idealize.ShloMosaic Idealize.ShloMosaic.TcCoe Idealize.SL.Sem
open Idealize.ShloMosaic.ValueIdx

/-- A core row, a step of the row and an element of the block name one sample and one class. -/
def cover : (Fin 2 × Fin 10) × S1000x2048.Idx ≃ S4096x10000.Idx where
  toFun p := ix2 (sample ⟨10 * p.1.1.val + p.1.2.val, point_lt p.1.1.val p.1.2 p.1.1.isLt⟩ p.2)
    (cls ⟨10 * p.1.1.val + p.1.2.val, point_lt p.1.1.val p.1.2 p.1.1.isLt⟩ p.2)
  invFun i := ((⟨(i 0).val / 2048, by have := idx2_lt0 i; omega⟩, ⟨(i 1).val / 1000, by have := idx2_lt1 i; omega⟩),
    ix2 (⟨(i 1).val % 1000, by omega⟩ : Fin 1000) (⟨(i 0).val % 2048, by omega⟩ : Fin 2048))
  left_inv p := by
    obtain ⟨⟨k, s⟩, j⟩ := p
    have h0 := idx2_lt0 j
    have h1 := idx2_lt1 j
    have hs := s.isLt
    refine Prod.ext (Prod.ext (Fin.ext ?_) (Fin.ext ?_)) (funext fun a => Fin.ext ?_)
    · show (2048 * ((10 * k.val + s.val) / 10) + (j 1).val) / 2048 = k.val
      omega
    · show (1000 * ((10 * k.val + s.val) % 10) + (j 0).val) / 1000 = s.val
      omega
    · match a with
      | ⟨0, _⟩ => show (1000 * ((10 * k.val + s.val) % 10) + (j 0).val) % 1000 = (j 0).val; omega
      | ⟨1, _⟩ => show (2048 * ((10 * k.val + s.val) / 10) + (j 1).val) % 2048 = (j 1).val; omega
  right_inv i := by
    have h0 := idx2_lt0 i
    have h1 := idx2_lt1 i
    refine funext fun a => Fin.ext ?_
    match a with
    | ⟨0, _⟩ =>
      show 2048 * ((10 * ((i 0).val / 2048) + (i 1).val / 1000) / 10) + (i 0).val % 2048 = (i 0).val
      omega
    | ⟨1, _⟩ =>
      show 1000 * ((10 * ((i 0).val / 2048) + (i 1).val / 1000) % 10) + (i 1).val % 1000 = (i 1).val
      omega

variable (m : (ℓ : Loc nD τ sig) → Buf (Elt Ideal) ℓ)

/-- The kernel's result is the negated sum of the pointwise loss over the argument. -/
theorem result_sum (c : Dev nD) : result m c = -(∑ i : S4096x10000.Idx,
    pt (m ((c : Thread nD τ).loc main_arg0) i) (m ((c : Thread nD τ).loc main_arg1) i)) := by
  unfold result blockSum
  simp only [zero_add, iblk_x, iblk_y]
  refine congrArg Neg.neg ?_
  rw [← Fintype.sum_prod_type', ← Fintype.sum_prod_type', ← Equiv.sum_comp cover]
  rfl

end Cert.KernelIdeal.Loss

end
-- ==== Proof.Loss.Run.lean ====
/-
  The kernel's run: it ends with the result buffer at the negated sum of the pointwise loss over the argument, and the
  arguments as they were.
-/
module

public import proofs.«01_k».proof.Proof.Loss.Grid

@[expose] public section

noncomputable section

namespace Cert.KernelIdeal.Loss

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Every execution ends with `result` in the result buffer. -/
theorem run_result : θ_run (defs (F := Ideal)) (onTc (τ := τ) (main (F := Ideal))) ⟨m, fun _ => 0, ρ⟩ (fun r =>
    ∀ c : Dev nD, r.2.mem ((c : Thread nD τ).loc main_v6) = fun _ => result m c) :=
  (θ_run defs _ _).mono
    (fun _ h c => (Pipeline.FramePost.rest_eq h c main_v6 (Pipeline.mem_restRefs_of main_v6 (by decide) (by decide))).trans
      (result_eq m c))
    (run_main m ρ)

/-- The same run with the result as one sum and the arguments unchanged. -/
theorem run : θ_run (defs (F := Ideal)) (onTc (τ := τ) (main (F := Ideal))) ⟨m, fun _ => 0, ρ⟩ (fun r => ∀ c : Dev nD,
    (r.2.mem ((c : Thread nD τ).loc main_v6) = fun _ => -(∑ i : S4096x10000.Idx,
        pt (m ((c : Thread nD τ).loc main_arg0) i) (m ((c : Thread nD τ).loc main_arg1) i)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨(h.1 c).trans (funext fun _ => result_sum m c), h.2 c⟩)
    (θ_run_and (run_result m ρ) (unchanged m ρ))

end Cert.KernelIdeal.Loss

end
-- ==== Proof.Loss.Reference.lean ====
/-
  What the reference computes: the negated sum, over the samples and classes, of a pointwise loss; and that loss equals
  the kernel's wherever the label is 0 or 1 and the negative mask is 0.
-/
module

public import proofs.«01_k».proof.Proof.Loss.Sum
public import proofs.«01_k».proof.Proof.Gen.ReferenceIdeal.Read

@[expose] public section

noncomputable section

namespace Cert.ReferenceIdeal.Loss

open Cert.ReferenceIdeal Cert.ReferenceIdeal.Gen Idealize.ShloMosaic Idealize.ShloMosaic.TcCoe Idealize.SL.Sem
open Cert.KernelIdeal.Loss (pt word_zero)

/-- The pattern of `1.0` denotes one. -/
theorem word_one : Ideal.ofBits .f32 0x3F800000#32 = ((1 : ℝ) : EReal) := by
  simp [Ideal.ofBits, Ideal.ieee, -EReal.coe_mul]; norm_num

/-- The pattern of `4.0` denotes four. -/
theorem word_four : Ideal.ofBits .f32 0x40800000#32 = ((4 : ℝ) : EReal) := by
  simp [Ideal.ofBits, Ideal.ieee, -EReal.coe_mul]; norm_num

/-- The pattern of the f32 nearest `0.05` denotes 13421773 / 2²⁸. -/
theorem word_clip : Ideal.ofBits .f32 0x3D4CCCCD#32 = ((13421773 / 268435456 : ℝ) : EReal) := by
  simp [Ideal.ofBits, Ideal.ieee, -EReal.coe_mul]; norm_num

/-- The kernel's named constant is one plus the reference's clip. -/
theorem named_clip : Named.named (F := Ideal) (φ := .f32) Cert.KernelIdeal.κ "one_plus_clip" 0x3F866666#32
    = ((1 + 13421773 / 268435456 : ℝ) : EReal) :=
  (IdealRules.named_const.ideal_named_scalar _ _ _ _ rfl).trans (congrArg _ (by norm_num))

/-- The loss of one element as the reference computes it, from the probability `p`, the label `y` and the negative
    mask `n` as numbers. -/
def lossOf (p y n : EReal) : EReal :=
  let one := Ideal.ofBits .f32 0x3F800000#32
  let eps := Ideal.ofBits .f32 0x322BCC77#32
  let q := min (one - p + Ideal.ofBits .f32 0x3D4CCCCD#32) one
  (y * Ideal.log (max p eps) + (one - y) * Ideal.log (max q eps))
    * Ideal.pow (one - (p * y + q * (one - y)))
        (one * y + Ideal.ofBits .f32 0x40800000#32 * (one - y - n) + one * n)

/-- The reference's product before its sum, at an element. -/
theorem product_apply (x0 : (⟨S4096x10000, .f32⟩ : BufTy).Contents (Elt Ideal))
    (x1 x2 : (⟨S4096x10000, .i32⟩ : BufTy).Contents (Elt Ideal)) (i : S4096x10000.Idx) :
    Read.val_main_v44 (F := Ideal) x0 x1 x2 i
      = lossOf (Ideal.div (Ideal.ofBits .f32 0x3F800000#32) (Ideal.ofBits .f32 0x3F800000#32 + Ideal.exp (-(x0 i))))
          (((x1 i).toInt : ℝ) : EReal) (((x2 i).toInt : ℝ) : EReal) := rfl

/-- The reference's probability is the logistic of the logit. -/
theorem prob_eq (x : EReal) :
    Ideal.div (Ideal.ofBits .f32 0x3F800000#32) (Ideal.ofBits .f32 0x3F800000#32 + Ideal.exp (-x)) = Ideal.logistic x := by
  rw [word_one]; rfl

/-- A probability is a real number. -/
theorem logistic_real (x : EReal) : ∃ r : ℝ, Ideal.logistic x = (r : EReal) := by
  induction x with
  | bot => exact ⟨0, Ideal.logistic_bot⟩
  | coe r => exact ⟨_, Ideal.logistic_coe r⟩
  | top => exact ⟨1, Ideal.logistic_top⟩

/-- The clipped complement of a real probability is real. -/
theorem clipped_real (r : ℝ) :
    min ((1 : ℝ) - (r : EReal) + ((13421773 / 268435456 : ℝ) : EReal)) ((1 : ℝ) : EReal)
      = ((min (1 - r + 13421773 / 268435456) 1 : ℝ) : EReal) := by
  rw [← EReal.coe_sub, ← EReal.coe_add]
  exact (EReal.coe_strictMono.monotone.map_min).symm

/-- The kernel's clipped complement is the reference's: `(1 + clip) − p = (1 − p) + clip`. -/
theorem clipped_eq (r : ℝ) :
    min (((1 + 13421773 / 268435456 : ℝ) : EReal) - (r : EReal)) ((1 : ℝ) : EReal)
      = ((min (1 - r + 13421773 / 268435456) 1 : ℝ) : EReal) := by
  rw [← clipped_real, ← EReal.coe_sub, ← EReal.coe_sub, ← EReal.coe_add]
  congr 2
  ring

/-- At a positive label the reference's loss is `log p · (1 − p)`. -/
theorem lossOf_pos (r : ℝ) : lossOf (r : EReal) ((1 : ℝ) : EReal) ((0 : ℝ) : EReal)
    = Ideal.log (max (r : EReal) (Ideal.ofBits .f32 0x322BCC77#32)) * (((1 : ℝ) : EReal) - (r : EReal)) := by
  unfold lossOf
  simp only [word_one, word_four, word_clip, clipped_real]
  generalize min (1 - r + 13421773 / 268435456) 1 = q
  generalize Ideal.log (max (r : EReal) _) = a
  generalize Ideal.log (max (q : EReal) _) = b
  simp only [← EReal.coe_sub, ← EReal.coe_add, ← EReal.coe_mul, Ideal.pow_coe_coe]
  norm_num

/-- At any other label the reference's loss is `log q · (1 − q)⁴`, `q` the clipped complement. -/
theorem lossOf_neg (r : ℝ) : lossOf (r : EReal) ((0 : ℝ) : EReal) ((0 : ℝ) : EReal)
    = Ideal.log (max ((min (1 - r + 13421773 / 268435456) 1 : ℝ) : EReal) (Ideal.ofBits .f32 0x322BCC77#32))
      * (((1 - min (1 - r + 13421773 / 268435456) 1) ^ 4 : ℝ) : EReal) := by
  unfold lossOf
  simp only [word_one, word_four, word_clip, clipped_real]
  generalize min (1 - r + 13421773 / 268435456) 1 = q
  generalize Ideal.log (max (r : EReal) _) = a
  generalize Ideal.log (max (q : EReal) _) = b
  simp only [← EReal.coe_sub, ← EReal.coe_add, ← EReal.coe_mul, Ideal.pow_coe_coe]
  norm_num

/-- On labels 0 and 1 and a zero negative mask, the reference's loss is the kernel's. -/
theorem loss_eq (x : EReal) (y n : BitVec 32) (hy : y = 0#32 ∨ y = 1#32) (hn : n = 0#32) :
    lossOf (Ideal.logistic x) ((y.toInt : ℝ) : EReal) ((n.toInt : ℝ) : EReal) = pt x y := by
  obtain ⟨r, hr⟩ := logistic_real x
  have h0 : (((0#32).toInt : ℝ) : EReal) = ((0 : ℝ) : EReal) := by simp
  have h1 : (((1#32).toInt : ℝ) : EReal) = ((1 : ℝ) : EReal) := by simp
  have s0 : ∀ a b : EReal, Scalar.select (IntOp.cmpi .sgt 0#32 0#32) a b = b := fun _ _ => rfl
  have s1 : ∀ a b : EReal, Scalar.select (IntOp.cmpi .sgt 1#32 0#32) a b = a := fun _ _ => rfl
  subst hn
  unfold pt
  rcases hy with rfl | rfl
  · rw [h0, hr, lossOf_neg]
    simp only [named_clip, word_one, clipped_eq, s0]
    generalize min (1 - r + 13421773 / 268435456) 1 = q
    rw [← EReal.coe_sub, ← EReal.coe_mul, ← EReal.coe_mul]
    refine congrArg (Ideal.log (max (q : EReal) _) * ·) (congrArg _ ?_)
    ring
  · rw [h0, h1, hr, lossOf_pos]
    simp only [word_one, s1]

/-- The reference's result: the negated sum of its pointwise loss. -/
theorem result_sum (x0 : (⟨S4096x10000, .f32⟩ : BufTy).Contents (Elt Ideal))
    (x1 x2 : (⟨S4096x10000, .i32⟩ : BufTy).Contents (Elt Ideal))
    (h : ∀ i, (x1 i = 0#32 ∨ x1 i = 1#32) ∧ x2 i = 0#32) :
    Read.val_main_v46 (F := Ideal) x0 x1 x2 = fun _ => -(∑ i : S4096x10000.Idx, pt (x0 i) (x1 i)) := by
  funext j
  rw [Read.val_main_v46_apply, Read.val_main_v45_apply]
  refine congrArg Neg.neg (a₁ := (_ : EReal)) ?_
  refine (congrArg₂ (· + ·) word_zero rfl).trans ((zero_add _).trans ?_)
  refine Finset.sum_congr rfl fun i _ => ?_
  rw [product_apply, prob_eq]
  exact loss_eq _ _ _ (h i).1 (h i).2

end Cert.ReferenceIdeal.Loss

end
-- ==== Proof.Loss.Labels.lean ====
/-
  What the precondition says of an element: the label is 0 or 1, and the negative mask is 0.
-/
module

public import proofs.«01_k».proof.Defs
public import proofs.«01_k».proof.Proof.Gen.Pre_labels
public import Idealize.ShloMosaic.Lib.ReduceAll

@[expose] public section

noncomputable section

namespace Cert.Pre_labels.Loss

open Cert.Pre_labels Cert.Pre_labels.Gen Idealize.ShloMosaic

/-- A conjunction of two bits is one only when both are. -/
theorem both (a b : BitVec 1) (h : IntOp.andi a b = 1#1) : a = 1#1 ∧ b = 1#1 := by
  revert a b; decide

/-- A disjunction of two bits is one only when one of them is. -/
theorem either (a b : BitVec 1) (h : IntOp.ori a b = 1#1) : a = 1#1 ∨ b = 1#1 := by
  revert a b; decide

/-- An equality comparison that is one compared equal words. -/
theorem eq_of_cmpi (a b : BitVec 32) (h : IntOp.cmpi .eq a b = 1#1) : a = b := by
  by_contra hne
  have : (a == b) = false := by simpa using hne
  have e : IntOp.cmpi .eq a b = BitVec.ofBool (a == b) := rfl
  rw [e, this] at h
  exact absurd h (by decide)

/-- Where the precondition is all ones, every label is 0 or 1 and every entry of the mask is 0. -/
theorem of_ones (x : FVec Ideal S4096x10000 .f32) (y n : IVec S4096x10000 32)
    (h : Cert.Pre_labels.fn (F := Ideal) x y n = fun _ => 1#1) (i : S4096x10000.Idx) :
    (y i = 0#32 ∨ y i = 1#32) ∧ n i = 0#32 := by
  have : Subsingleton S_.Idx := ⟨fun a b => funext fun d => d.elim0⟩
  have h0 := congrFun h fun d => d.elim0
  obtain ⟨hy, hn⟩ := both _ _ h0
  refine ⟨?_, eq_of_cmpi _ _ (Host.reduce_andi_all _ _ reducesTo_S4096x10000_S_d0_1 h_S_ _ hn i)⟩
  rcases either _ _ (Host.reduce_andi_all _ _ reducesTo_S4096x10000_S_d0_1 h_S_ _ hy i) with e | e
  · exact .inl (eq_of_cmpi _ _ e)
  · exact .inr (eq_of_cmpi _ _ e)

end Cert.Pre_labels.Loss

end
-- ==== Proof.lean ====
/-
  The proof of `Cert.Claim`: the three frames, the value of the named constant, and the equality of the kernel's and
  the reference's results over the extended reals.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Loss.Run
public import proofs.«01_k».proof.Proof.Loss.Reference
public import proofs.«01_k».proof.Proof.Loss.Labels
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments and declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- At `Ideal` the named constant is the value that the certificate's table gives it, one plus the f32 nearest 0.05. -/
theorem preserves : Cert.preserves_Kernel_KernelIdeal :=
  IdealRules.named_const.statement Cert.KernelIdeal.κ "one_plus_clip" .f32 0x3F866666#32 _ rfl

/-- On equal arguments whose labels are 0 or 1 and whose mask is 0, the kernel and the reference end with equal results. -/
theorem algebraic : Cert.algebraic_KernelIdeal_ReferenceIdeal_pre_labels := fun m ρ m' ρ' hpre hagree =>
  ⟨fun c _ => -(∑ i : Cert.KernelIdeal.S4096x10000.Idx, Cert.KernelIdeal.Loss.pt
      (m ((c.tc : Thread Cert.KernelIdeal.nD Cert.KernelIdeal.τ).loc Cert.KernelIdeal.main_arg0) i)
      (m ((c.tc : Thread Cert.KernelIdeal.nD Cert.KernelIdeal.τ).loc Cert.KernelIdeal.main_arg1) i)),
    Cert.KernelIdeal.Loss.run m ρ,
    (θ_run Cert.ReferenceIdeal.defs _ _).mono
      (fun r h c => ⟨(h c).1.trans ((Cert.ReferenceIdeal.Read.val_main_v46_eq _ _ _).trans (by
          rw [(hagree c).1, (hagree c).2.1, (hagree c).2.2]
          exact Cert.ReferenceIdeal.Loss.result_sum _ _ _ (Cert.Pre_labels.Loss.of_ones _ _ _ (hpre c)))), (h c).2⟩)
      (Cert.ReferenceIdeal.Value.run (F := Ideal) m' ρ')⟩

/-- Everything the certificate claims. -/
theorem claim : Cert.Claim :=
  ⟨Cert.Kernel.Gen.facts, Cert.KernelIdeal.Gen.facts, Cert.ReferenceIdeal.Gen.facts, Cert.Pre_labels.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    preserves, algebraic⟩

end Cert.Proof

end
